-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_on_decision_only [hKernelIdeal : Cert.KernelIdeal.Facts] [hReferenceIdeal : Cert.ReferenceIdeal.Facts] [hOn_decision_only : Cert.On_decision_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 64]⟩ : Shape).Idx, (Cert.On_decision_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v0_0) i = v0 c i)
          ∧ (∀ i : (⟨2, ![256, 64]⟩ : Shape).Idx, (Cert.On_decision_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![256, 64]⟩ : Shape).Idx, (Cert.On_decision_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v36) i = v0 c i)
          ∧ (∀ i : (⟨2, ![256, 64]⟩ : Shape).Idx, (Cert.On_decision_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v49) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts) (hOn_decision_only : Cert.On_decision_only.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_decision_only (hKernelIdeal := hKernelIdeal) (hReferenceIdeal := hReferenceIdeal) (hOn_decision_only := hOn_decision_only)
    ∧ algebraic_KernelIdeal_ReferenceIdeal_pre_finite (hKernelIdeal := hKernelIdeal) (hReferenceIdeal := hReferenceIdeal) (hPre_finite := hPre_finite)
-- ==== On_decision_only.lean ====
abbrev S256x64x1024 : Shape := ⟨3, ![256, 64, 1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩
abbrev S256x64 : Shape := ⟨2, ![256, 64]⟩

class Facts : Prop where
  bcast_S_S256x64 : S_.BroadcastsInDim S256x64 (![] : Fin 0 → Fin S256x64.rank)

variable [Facts]

def fn {F : FTy → Type} [FloatOps F] (main_arg0 : FVec F S256x64x1024 .f32) (main_arg1 : FVec F S1024x512 .f32) (main_arg2 : FVec F S512 .f32) (main_arg3 : FVec F S512x2 .f32) (main_arg4 : FVec F S2 .f32) (main_arg5 : IVec S_ 32) : IVec S256x64 1 × IVec S256x64 1 :=
  let main_c : IVec S_ 1 := constantI S_ 1 1#1
  let main_v0 : IVec S256x64 1 := broadcastInDim S256x64 ![] bcast_S_S256x64 main_c
  let main_c_0 : IVec S_ 1 := constantI S_ 1 0#1
  let main_v1 : IVec S256x64 1 := broadcastInDim S256x64 ![] bcast_S_S256x64 main_c_0
  (main_v0, main_v1)
-- ==== Pre_finite.lean ====
abbrev S256x64x1024 : Shape := ⟨3, ![256, 64, 1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩

class Facts : Prop where
  bcast_S_S256x64x1024 : S_.BroadcastsInDim S256x64x1024 (![] : Fin 0 → Fin S256x64x1024.rank)
  bcast_S_S1024x512 : S_.BroadcastsInDim S1024x512 (![] : Fin 0 → Fin S1024x512.rank)
  bcast_S_S512 : S_.BroadcastsInDim S512 (![] : Fin 0 → Fin S512.rank)
  bcast_S_S512x2 : S_.BroadcastsInDim S512x2 (![] : Fin 0 → Fin S512x2.rank)
  bcast_S_S2 : S_.BroadcastsInDim S2 (![] : Fin 0 → Fin S2.rank)

variable [Facts]

def fn {F : FTy → Type} [FloatOps F] (main_arg0 : FVec F S256x64x1024 .f32) (main_arg1 : FVec F S1024x512 .f32) (main_arg2 : FVec F S512 .f32) (main_arg3 : FVec F S512x2 .f32) (main_arg4 : FVec F S2 .f32) (main_arg5 : IVec S_ 32) : IVec S256x64x1024 1 × IVec S1024x512 1 × IVec S512 1 × IVec S512x2 1 × IVec S2 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_v3 : FVec F S1024x512 .f32 := Host.absf main_arg1
  let main_cst_0 : FVec F S_ .f32 := constant S_ .f32 0x7F800000#32
  let main_v4 : FVec F S1024x512 .f32 := broadcastInDim S1024x512 ![] bcast_S_S1024x512 main_cst_0
  let main_v5 : IVec S1024x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S512x2 .f32 := Host.absf main_arg3
  let main_cst_2 : FVec F S_ .f32 := constant S_ .f32 0x7F800000#32
  let main_v10 : FVec F S512x2 .f32 := broadcastInDim S512x2 ![] bcast_S_S512x2 main_cst_2
  let main_v11 : IVec S512x2 1 := cmpf .olt main_v9 main_v10
  let main_v12 : FVec F S2 .f32 := Host.absf main_arg4
  let main_cst_3 : FVec F S_ .f32 := constant S_ .f32 0x7F800000#32
  let main_v13 : FVec F S2 .f32 := broadcastInDim S2 ![] bcast_S_S2 main_cst_3
  let main_v14 : IVec S2 1 := cmpf .olt main_v12 main_v13
  (main_v2, main_v5, main_v8, main_v11, main_v14)
-- ==== Kernel.lean ====
abbrev S256x64x1024 : Shape := ⟨3, ![256, 64, 1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩
abbrev S16384x1024 : Shape := ⟨2, ![16384, 1024]⟩
abbrev S1x512 : Shape := ⟨2, ![1, 512]⟩
abbrev S1x2 : Shape := ⟨2, ![1, 2]⟩
abbrev S256x64 : Shape := ⟨2, ![256, 64]⟩
abbrev S2048x1024 : Shape := ⟨2, ![2048, 1024]⟩
abbrev S32x64 : Shape := ⟨2, ![32, 64]⟩
abbrev S1024x1024 : Shape := ⟨2, ![1024, 1024]⟩
abbrev S1024x2 : Shape := ⟨2, ![1024, 2]⟩
abbrev S1024x1 : Shape := ⟨2, ![1024, 1]⟩
abbrev S16x64 : Shape := ⟨2, ![16, 64]⟩
abbrev S16 : Shape := ⟨1, ![16]⟩
abbrev S16x1 : Shape := ⟨2, ![16, 1]⟩

abbrev nBuf : Space → Nat
  | .hbm => 11
  | .vmem => 10
  | .smem => 0
  | _ => 0

abbrev bufTy : (tb : Table) → Fin (tcTables nBuf tb) → BufTy
  | .hbm, ⟨0, _⟩ => ⟨S256x64x1024, .f32⟩
  | .hbm, ⟨1, _⟩ => ⟨S1024x512, .f32⟩
  | .hbm, ⟨2, _⟩ => ⟨S512, .f32⟩
  | .hbm, ⟨3, _⟩ => ⟨S512x2, .f32⟩
  | .hbm, ⟨4, _⟩ => ⟨S2, .f32⟩
  | .hbm, ⟨5, _⟩ => ⟨S_, .i32⟩
  | .hbm, ⟨6, _⟩ => ⟨S16384x1024, .f32⟩
  | .hbm, ⟨7, _⟩ => ⟨S1x512, .f32⟩
  | .hbm, ⟨8, _⟩ => ⟨S1x2, .f32⟩
  | .hbm, ⟨9, _⟩ => ⟨S256x64, .f32⟩
  | .hbm, ⟨10, _⟩ => ⟨S256x64, .f32⟩
  | .local _ .vmem, ⟨0, _⟩ => ⟨S2048x1024, .f32⟩
  | .local _ .vmem, ⟨1, _⟩ => ⟨S2048x1024, .f32⟩
  | .local _ .vmem, ⟨2, _⟩ => ⟨S1024x512, .f32⟩
  | .local _ .vmem, ⟨3, _⟩ => ⟨S1x512, .f32⟩
  | .local _ .vmem, ⟨4, _⟩ => ⟨S512x2, .f32⟩
  | .local _ .vmem, ⟨5, _⟩ => ⟨S1x2, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S256x64x1024 : Shape := ⟨3, ![256, 64, 1024]⟩
abbrev S1024x512 : Shape := ⟨2, ![1024, 512]⟩
abbrev S512 : Shape := ⟨1, ![512]⟩
abbrev S512x2 : Shape := ⟨2, ![512, 2]⟩
abbrev S2 : Shape := ⟨1, ![2]⟩
abbrev S_ : Shape := ⟨0, ![]⟩
abbrev S256x64x512 : Shape := ⟨3, ![256, 64, 512]⟩
abbrev S1x1x512 : Shape := ⟨3, ![1, 1, 512]⟩
abbrev S256x64x2 : Shape := ⟨3, ![256, 64, 2]⟩
abbrev S1x1x2 : Shape := ⟨3, ![1, 1, 2]⟩
abbrev S256x64 : Shape := ⟨2, ![256, 64]⟩
abbrev S256 : Shape := ⟨1, ![256]⟩
abbrev S256x1 : Shape := ⟨2, ![256, 1]⟩
abbrev S256x64x1 : Shape := ⟨3, ![256, 64, 1]⟩

abbrev nBuf : Space → Nat
  | .hbm => 79
  | .vmem => 0
  | .smem => 0
  | _ => 0

abbrev bufTy : (tb : Table) → Fin (tcTables nBuf tb) → BufTy
  | .hbm, ⟨0, _⟩ => ⟨S256x64x1024, .f32⟩
  | .hbm, ⟨1, _⟩ => ⟨S1024x512, .f32⟩
  | .hbm, ⟨2, _⟩ => ⟨S512, .f32⟩
  | .hbm, ⟨3, _⟩ => ⟨S512x2, .f32⟩
  | .hbm, ⟨4, _⟩ => ⟨S2, .f32⟩
  | .hbm, ⟨5, _⟩ => ⟨S_, .i32⟩
  | .hbm, ⟨6, _⟩ => ⟨S256x64x512, .f32⟩
  | .hbm, ⟨7, _⟩ => ⟨S1x1x512, .f32⟩
  | .hbm, ⟨8, _⟩ => ⟨S256x64x512, .f32⟩
  | .hbm, ⟨9, _⟩ => ⟨S256x64x512, .f32⟩
  | .hbm, ⟨10, _⟩ => ⟨S_, .f32⟩
  | .hbm, ⟨11, _⟩ => ⟨S256x64x512, .f32⟩
  | .hbm, ⟨12, _⟩ => ⟨S256x64x512, .f32⟩
  | .hbm, ⟨13, _⟩ => ⟨S256x64x2, .f32⟩
  | .hbm, ⟨14, _⟩ => ⟨S1x1x2, .f32⟩
  | .hbm, ⟨15, _⟩ => ⟨S256x64x2, .f32⟩
  | .hbm, ⟨16, _⟩ => ⟨S256x64x2, .f32⟩
  | .hbm, ⟨17, _⟩ => ⟨S256x64x2, .i32⟩
  | .hbm, ⟨18, _⟩ => ⟨S_, .f32⟩
  | .hbm, ⟨19, _⟩ => ⟨S_, .i32⟩
  | .hbm, ⟨20, _⟩ => ⟨S256x64, .f32⟩
  | .hbm, ⟨21, _⟩ => ⟨S256x64, .i32⟩
  | .hbm, ⟨22, _⟩ => ⟨S_, .i32⟩
  | .hbm, ⟨23, _⟩ => ⟨S256x64, .i32⟩
  | .hbm, ⟨24, _⟩ => ⟨S256x64, .i1⟩
  | .hbm, ⟨25, _⟩ => ⟨S256x64, .f32⟩
  | .hbm, ⟨26, _⟩ => ⟨S_, .f32⟩
  | .hbm, ⟨27, _⟩ => ⟨S256x64, .f32⟩
  | .hbm, ⟨28, _⟩ => ⟨S256x64, .i1⟩
  | .hbm, ⟨29, _⟩ => ⟨S256x64, .i32⟩
  | .hbm, ⟨30, _⟩ => ⟨S_, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S_, .f32⟩
  | .hbm, ⟨43, _⟩ => ⟨S256x64, .f32⟩
  | .hbm, ⟨44, _⟩ => ⟨S256x64, .i1⟩
  | .hbm, ⟨45, _⟩ => ⟨S256x64, .i32⟩
  | .hbm, ⟨46, _⟩ => ⟨S_, .i32⟩
  | .hbm, ⟨47, _⟩ => ⟨S_, .i32⟩
  | .hbm, ⟨48, _⟩ => ⟨S256x64, .i32⟩
  | .hbm, ⟨49, _⟩ => ⟨S_, .f32⟩
  | .hbm, ⟨50, _⟩ => ⟨S256x64, .f32⟩
  | .hbm, ⟨51, _⟩ => ⟨S256x64, .i1⟩
  | .hbm, ⟨52, _⟩ => ⟨S256x1, .i32⟩
  | .hbm, ⟨53, _⟩ => ⟨S256x64, .i32⟩
  | .hbm, ⟨54, _⟩ => ⟨S256x64, .i1⟩
  | .hbm, ⟨55, _⟩ => ⟨S256x64, .i1⟩
  | .hbm, ⟨56, _⟩ => ⟨S256x1, .i1⟩
  | .hbm, ⟨57, _⟩ => ⟨S256x64, .i1⟩
  | .hbm, ⟨58, _⟩ => ⟨S256x64, .i1⟩
  | .hbm, ⟨59, _⟩ => ⟨S_, .f32⟩
  | .hbm, ⟨60, _⟩ => ⟨S_, .f32⟩
  | .hbm, ⟨61, _⟩ => ⟨S256x64, .f32⟩
  | .hbm, ⟨62, _⟩ => ⟨S256x64, .f32⟩
  | .hbm, ⟨63, _⟩ => ⟨S_, .f32⟩
  | .hbm, ⟨64, _⟩ => ⟨S256x64, .f32⟩
  | .hbm, ⟨65, _⟩ => ⟨S_, .f32⟩
  | .hbm, ⟨66, _⟩ => ⟨S256x64, .f32⟩
  | .hbm, ⟨67, _⟩ => ⟨S256x64, .f32⟩
  | .hbm, ⟨68, _⟩ => ⟨S256x64x1, .f32⟩
  | .hbm, ⟨69, _⟩ => ⟨S256x64x2, .f32⟩
  | .hbm, ⟨70, _⟩ => ⟨S256x64x2, .f32⟩
  | .hbm, ⟨71, _⟩ => ⟨S256x64x2, .f32⟩
  | .hbm, ⟨72, _⟩ => ⟨S_, .f32⟩
  | .hbm, ⟨73, _⟩ => ⟨S256x64, .f32⟩
  | .hbm, ⟨74, _⟩ => ⟨S256x64x1, .f32⟩
  | .hbm, ⟨75, _⟩ => ⟨S256x64x2, .f32⟩
  | .hbm, ⟨76, _⟩ => ⟨S256x64x2, .f32⟩
  | .hbm, ⟨77, _⟩ => ⟨S256x64x1, .f32⟩
  | .hbm, ⟨78, _⟩ => ⟨S256x64, .f32⟩
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_c : Ref sig .tc := ⟨.hbm, 19, rfl⟩
abbrev main_call0_v1_0 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call2_call0_c : Ref sig .tc := ⟨.hbm, 46, rfl⟩
abbrev main_call2_call0_v0 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_call3_v0 : Ref sig .tc := ⟨.hbm, 60, rfl⟩
abbrev main_call3_v1 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Proof.Spec.lean ====
/- What both programs compute, as functions of plain numbers: the two logits of one slot, the decision of a row of
   64 slots with its repair, and the keep probability from the difference of a slot's logits. -/
module

public import Idealize.ShloMosaic.Lib.Pointwise
public import Idealize.ShloMosaic.Lib.IdealHost

@[expose] public section

noncomputable section

namespace Cert.Spec

open Idealize.ShloMosaic

/-- Logit `o` of a slot with features `x`: a dense layer to 512 units, `max(·, 0)`, a dense layer to two outputs. -/
def logit (x : Fin 1024 → EReal) (w₁ : Fin 1024 → Fin 512 → EReal) (b₁ : Fin 512 → EReal)
    (w₂ : Fin 512 → Fin 2 → EReal) (b₂ : Fin 2 → EReal) (o : Fin 2) : EReal :=
  (∑ f : Fin 512, max ((∑ k : Fin 1024, x k * w₁ k f) + b₁ f) 0 * w₂ f o) + b₂ o

/-- Logit `o` of slot `n` of row `b`, from the five arrays as they are passed to both programs. -/
def slotLogit (x : FVec Ideal ⟨3, ![256, 64, 1024]⟩ .f32) (w₁ : FVec Ideal ⟨2, ![1024, 512]⟩ .f32)
    (b₁ : FVec Ideal ⟨1, ![512]⟩ .f32) (w₂ : FVec Ideal ⟨2, ![512, 2]⟩ .f32) (b₂ : FVec Ideal ⟨1, ![2]⟩ .f32)
    (b : Fin 256) (n : Fin 64) (o : Fin 2) : EReal :=
  logit (fun k => x (ix3 b n k)) (fun k f => w₁ (ix2 k f)) (fun f => b₁ (ix1 f)) (fun f o => w₂ (ix2 f o)) (fun o => b₂ (ix1 o)) o

/-- A slot is active when its second logit exceeds its first. -/
def Active (z : Fin 64 → Fin 2 → EReal) (n : Fin 64) : Prop := z n 0 < z n 1

open Classical in
/-- The decision for slot `n` of a row with logits `z`: 1 for an active slot, and 1 for the first slot of a row that has
    no active slot; else 0. -/
def decided (z : Fin 64 → Fin 2 → EReal) (n : Fin 64) : EReal :=
  if Active z n ∨ ((∀ k, ¬ Active z k) ∧ n = 0) then 1 else 0

/-- The keep probability from the difference `d` of a slot's logits: `1 / (1 + 2 ^ (d · (-(log 2)⁻¹)))`. -/
def kept (d : EReal) : EReal :=
  Ideal.div 1 (1 + Ideal.exp2 (d * ((-((Real.log 2)⁻¹) : ℝ) : EReal)))

open Classical in
/-- The greatest of 64 indicators is zero exactly when none of them is set. -/
theorem fold_indicator_eq_zero (P : Fin 64 → Prop) :
    Finset.fold max (⊥ : EReal) (fun k => if P k then (1 : EReal) else 0) Finset.univ = 0 ↔ ∀ k, ¬ P k := by
  constructor
  · intro h k hk
    have := (Finset.fold_max_le (s := Finset.univ) (0 : EReal)).1 h.le
    have := this.2 k (Finset.mem_univ _)
    simp [hk] at this
    exact absurd this (not_le.2 zero_lt_one)
  · intro h
    apply le_antisymm
    · exact (Finset.fold_max_le _).2 ⟨bot_le, fun k _ => by simp [h k]⟩
    · exact (Finset.le_fold_max _).2 (.inr ⟨0, Finset.mem_univ _, by simp [h 0]⟩)

end Cert.Spec

end
-- ==== Proof.Consts.lean ====
/- The constants of the two programs at the extended reals, each read once. -/
module

public import proofs.«01_k».proof.KernelIdeal
public import Idealize.ShloMosaic.PureOps.IdealRules
public import Idealize.ShloMosaic.PureOps.Ideal.Laws

@[expose] public section

noncomputable section

namespace Cert.Consts

open Idealize.ShloMosaic

/-- The pattern of minus infinity is the least extended real. -/
theorem neg_inf : Ideal.ofBits .f32 0xFF800000#32 = ⊥ := by simp [Ideal.ofBits, Ideal.ieee]

/-- The pattern of plus infinity is the greatest extended real. -/
theorem pos_inf : Ideal.ofBits .f32 0x7F800000#32 = ⊤ := by simp [Ideal.ofBits, Ideal.ieee]

/-- The named constant of the kernel is minus the reciprocal of the natural logarithm of two. -/
theorem neg_log2e : Named.named (F := Ideal) Cert.KernelIdeal.κ "neg_log2e" (φ := .f32) 0xBFB8AA3B#32
    = ((-((Real.log 2)⁻¹) : ℝ) : EReal) :=
  IdealRules.named_const.ideal_named_scalar _ _ _ _ rfl

end Cert.Consts

end
-- ==== Proof.KerBlock.lean ====
/- What one grid step of the kernel computes: from 2048 rows of features and the whole weights, a 32 by 64 block of
   decisions and a 32 by 64 block of keep probabilities. Row `64 * p + q` of the features is slot `q` of block row `p`. -/
module

public import proofs.«01_k».proof.Proof.Gen.KernelIdeal.Frame
public import proofs.«01_k».proof.Proof.Spec
public import proofs.«01_k».proof.Proof.Consts
public import Idealize.ShloMosaic.Lib.Pipeline.ValueKit.Tiles

@[expose] public section

noncomputable section

namespace Cert.KerBlock

open Cert.KernelIdeal Cert.KernelIdeal.Gen Idealize.ShloMosaic

/-- Logit `o` of row `r` of a feature block of `R` rows, with the weights as the kernel is given them. -/
def rowLogit {R : Nat} (x : FVec Ideal ⟨2, ![R, 1024]⟩ .f32) (w₁ : FVec Ideal S1024x512 .f32) (b₁ : FVec Ideal S1x512 .f32)
    (w₂ : FVec Ideal S512x2 .f32) (b₂ : FVec Ideal S1x2 .f32) (r : Fin R) (o : Fin 2) : EReal :=
  Spec.logit (fun k => x (ix2 r k)) (fun k f => w₁ (ix2 k f)) (fun f => b₁ (ix2 0 f)) (fun f o => w₂ (ix2 f o))
    (fun o => b₂ (ix2 0 o)) o

section Half

variable (x : FVec Ideal S1024x1024 .f32) (w₁ : FVec Ideal S1024x512 .f32) (b₁ : FVec Ideal S1x512 .f32)
  (w₂ : FVec Ideal S512x2 .f32) (b₂ : FVec Ideal S1x2 .f32)

set_option maxRecDepth 16384 in
/-- The difference of the two logits of each slot of a half block. -/
theorem diff_apply (p : Fin 16) (q : Fin 64) :
    k0_pay3 (F := Ideal) x w₁ b₁ w₂ b₂ (ix2 p q)
      = rowLogit x w₁ b₁ w₂ b₂ ⟨p.val * 64 + q.val, by omega⟩ 1 - rowLogit x w₁ b₁ w₂ b₂ ⟨p.val * 64 + q.val, by omega⟩ 0 := by
  pointwise [k0_pay3, rowLogit, Spec.logit]

/-- The second half's difference is the same function of its rows. -/
theorem diff_second : k0_pay7 (F := Ideal) x w₁ b₁ w₂ b₂ = k0_pay3 (F := Ideal) x w₁ b₁ w₂ b₂ := rfl

/-- The second half's decision is the same function of its rows. -/
theorem decision_second :
    k0_pay1 (k0_pay8 (F := Ideal) x w₁ b₁ w₂ b₂) k0_pay9 (k0_pay10 (F := Ideal) x w₁ b₁ w₂ b₂) = k0_pay4 (F := Ideal) x w₁ b₁ w₂ b₂ := rfl

/-- The first half's keep probability is the same function of the difference as the second half's. -/
theorem keep_first (d : FVec Ideal S16x64 .f32) : k0_pay6 d (k0_pay5 (F := Ideal)) = k0_pay2 d := rfl

/-- A truth value widened to 32 bits and converted to a number is its indicator. -/
theorem indicator (P : Prop) [Decidable P] :
    (FloatOps.sitofp (F := Ideal) FTy.f32 (BitVec.setWidth 32 (BitVec.ofBool (decide P))) : EReal) = if P then 1 else 0 := by
  by_cases h : P <;> simp [h, FloatOps.sitofp]

set_option maxRecDepth 16384 in
/-- The decision of each slot of a half block. -/
theorem decision_apply (p : Fin 16) (q : Fin 64) :
    k0_pay4 (F := Ideal) x w₁ b₁ w₂ b₂ (ix2 p q)
      = Spec.decided (fun k => rowLogit x w₁ b₁ w₂ b₂ ⟨p.val * 64 + k.val, by omega⟩) q := by
  classical
  have hpos : ∀ k : Fin 64, (0 < k0_pay3 (F := Ideal) x w₁ b₁ w₂ b₂ (ix2 p k))
      = Spec.Active (fun k => rowLogit x w₁ b₁ w₂ b₂ ⟨p.val * 64 + k.val, by omega⟩) k := fun k => by
    rw [diff_apply]; exact propext EReal.sub_pos
  pointwise [k0_pay4]
  simp only [indicator, hpos, Consts.neg_inf]
  rw [Spec.decided]
  generalize Spec.Active _ = A
  have hq : IntOp.cmpi CmpIPredicate.eq (BitVec.ofNat 32 ↑q) 0#32 = BitVec.ofBool (decide (q = 0)) := by
    revert q; decide
  rw [hq]
  have hf := Spec.fold_indicator_eq_zero A
  simp only [hf]
  by_cases h : ∀ k, ¬ A k <;> by_cases h0 : q = 0 <;> by_cases hA : A q <;>
    simp [h, h0, hA, Scalar.select, IntOp.andi]

/-- The keep probability of each slot from the difference of its logits. -/
theorem keep_apply (d : FVec Ideal S16x64 .f32) (y : S16x64.Idx) : k0_pay2 d y = Spec.kept (d y) := by
  pointwise [k0_pay2]
  rw [Consts.neg_log2e]
  rfl

end Half

section Block

variable (x : FVec Ideal S2048x1024 .f32) (w₁ : FVec Ideal S1024x512 .f32) (b₁ : FVec Ideal S1x512 .f32)
  (w₂ : FVec Ideal S512x2 .f32) (b₂ : FVec Ideal S1x2 .f32)

/-- Rows `1024 * h` to `1024 * h + 1023` of the feature block give the logits of the rows they are. -/
theorem rowLogit_first (r : Fin 1024) (o : Fin 2) :
    rowLogit (R := 1024) (View.ld (Val := Elt Ideal) (e' := .f32) x r0_0) (View.ld (Val := Elt Ideal) (e' := .f32) w₁ r0_1) (View.ld (Val := Elt Ideal) (e' := .f32) b₁ r0_2) (View.ld (Val := Elt Ideal) (e' := .f32) w₂ r0_3) (View.ld (Val := Elt Ideal) (e' := .f32) b₂ r0_4) r o
      = rowLogit x w₁ b₁ w₂ b₂ ⟨r.val, by omega⟩ o := by
  pointwise [rowLogit]

/-- Likewise the second half of the block: its row `r` is row `1024 + r` of the block. -/
theorem rowLogit_second (r : Fin 1024) (o : Fin 2) :
    rowLogit (R := 1024) (View.ld (Val := Elt Ideal) (e' := .f32) x r0_6) (View.ld (Val := Elt Ideal) (e' := .f32) w₁ r0_1) (View.ld (Val := Elt Ideal) (e' := .f32) b₁ r0_2) (View.ld (Val := Elt Ideal) (e' := .f32) w₂ r0_3) (View.ld (Val := Elt Ideal) (e' := .f32) b₂ r0_4) r o
      = rowLogit x w₁ b₁ w₂ b₂ ⟨1024 + r.val, by omega⟩ o := by
  pointwise [rowLogit]

/-- The kernel's block of keep probabilities. -/
theorem keep_block (p : Fin 32) (q : Fin 64) :
    out0_6 (F := Ideal) x w₁ b₁ w₂ b₂ (ix2 p q)
      = Spec.kept (rowLogit x w₁ b₁ w₂ b₂ ⟨p.val * 64 + q.val, by omega⟩ 1 - rowLogit x w₁ b₁ w₂ b₂ ⟨p.val * 64 + q.val, by omega⟩ 0) := by
  canon_tiles y h using cover0_6 ..
  · idx_vars y
    rw [keep_apply, diff_second, diff_apply, rowLogit_second, rowLogit_second]
    congr 3 <;> (apply Fin.ext; simp at *; omega)
  · idx_vars y
    rw [keep_first, keep_apply, diff_apply, rowLogit_first, rowLogit_first]
    congr 3 <;> (apply Fin.ext; simp at *; omega)

/-- The kernel's block of decisions. -/
theorem decision_block (p : Fin 32) (q : Fin 64) :
    out0_5 (F := Ideal) x w₁ b₁ w₂ b₂ (ix2 p q)
      = Spec.decided (fun k => rowLogit x w₁ b₁ w₂ b₂ ⟨p.val * 64 + k.val, by omega⟩) q := by
  canon_tiles y h using cover0_5 ..
  · idx_vars y
    rw [decision_second, decision_apply]
    refine congrArg₂ Spec.decided (funext fun k => funext fun o => (rowLogit_second x w₁ b₁ w₂ b₂ _ o).trans ?_) ?_
    · congr 1; apply Fin.ext; simp at *; omega
    · apply Fin.ext; simp at *; omega
  · idx_vars y
    rw [decision_apply]
    refine congrArg₂ Spec.decided (funext fun k => funext fun o => (rowLogit_first x w₁ b₁ w₂ b₂ _ o).trans ?_) ?_
    · congr 1; apply Fin.ext; simp at *; omega
    · apply Fin.ext; simp at *; omega

end Block

end Cert.KerBlock

end
-- ==== Proof.KerArray.lean ====
/- What the kernel's two result arrays hold after a run: at row `b`, slot `n`, the decision and the keep probability of
   the launched arguments. Grid step `t` writes rows `32 * t` to `32 * t + 31` of both. -/
module

public import proofs.«01_k».proof.Proof.Gen.KernelIdeal.Value
public import proofs.«01_k».proof.Proof.KerBlock
public import Idealize.ShloMosaic.Lib.Pipeline.ValueKit.Geometry
public import Idealize.ShloMosaic.Lib.Pipeline.ValueKit.Point

@[expose] public section

noncomputable section

namespace Cert.KerArray

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The logits of the launched arguments. -/
def z (c : Dev nD) (b : Fin 256) (n : Fin 64) (o : Fin 2) : EReal :=
  Spec.slotLogit (m ((c : Thread nD τ).loc main_arg0)) (m ((c : Thread nD τ).loc main_arg1))
    (m ((c : Thread nD τ).loc main_arg2)) (m ((c : Thread nD τ).loc main_arg3)) (m ((c : Thread nD τ).loc main_arg4)) b n o

/-- The array of decisions. -/
def decisions (c : Dev nD) : FVec Ideal S256x64 .f32 := fun i => Spec.decided (z m c (i 0)) (i 1)

/-- The array of keep probabilities. -/
def keeps (c : Dev nD) : FVec Ideal S256x64 .f32 := fun i => Spec.kept (z m c (i 0) (i 1) 1 - z m c (i 0) (i 1) 0)

/-- Grid step `t` reads feature block `t`. -/
theorem index0 : ∀ t : Fin cfg0.N, win0_0.index t = ![t.val, 0] := (by decide +kernel : ∀ t : Fin grid0.N, _)
/-- The first weight is read whole at every step. -/
theorem index1 : ∀ t : Fin cfg0.N, win0_1.index t = ![0, 0] := (by decide +kernel : ∀ t : Fin grid0.N, _)
/-- The first bias is read whole at every step. -/
theorem index2 : ∀ t : Fin cfg0.N, win0_2.index t = ![0, 0] := (by decide +kernel : ∀ t : Fin grid0.N, _)
/-- The second weight is read whole at every step. -/
theorem index3 : ∀ t : Fin cfg0.N, win0_3.index t = ![0, 0] := (by decide +kernel : ∀ t : Fin grid0.N, _)
/-- The second bias is read whole at every step. -/
theorem index4 : ∀ t : Fin cfg0.N, win0_4.index t = ![0, 0] := (by decide +kernel : ∀ t : Fin grid0.N, _)
/-- Step `t` writes block `t` of the decisions. -/
theorem index5 : ∀ t : Fin cfg0.N, win0_5.index t = ![t.val, 0] := (by decide +kernel : ∀ t : Fin grid0.N, _)
/-- Step `t` writes block `t` of the keep probabilities. -/
theorem index6 : ∀ t : Fin cfg0.N, win0_6.index t = ![t.val, 0] := (by decide +kernel : ∀ t : Fin grid0.N, _)

/-- The grid has eight steps. -/
theorem step_lt (t : Fin cfg0.N) : t.val < 8 := t.isLt

/-- Row `64 * p + q` of feature block `t` is slot `q` of row `32 * t + p`. -/
theorem read0 (c : Dev nD) (t : Fin cfg0.N) (p : Fin 32) (q : Fin 64) (k : Fin 1024) :
    iblk m c 0 t (ix2 (⟨p.val * 64 + q.val, by omega⟩ : Fin 2048) k)
      = m ((c : Thread nD τ).loc main_arg0) (ix3 (⟨32 * t.val + p.val, by have := step_lt t; omega⟩ : Fin 256) q k) := by
  have ht := step_lt t
  blk_ext! [iblk, V, index0 t]

/-- The staged first weight is the argument. -/
theorem read1 (c : Dev nD) (t : Fin cfg0.N) (k : Fin 1024) (f : Fin 512) :
    iblk m c 1 t (ix2 k f) = m ((c : Thread nD τ).loc main_arg1) (ix2 k f) := by
  blk_ext! [iblk, V, index1 t]

/-- The staged first bias is the argument, as one row. -/
theorem read2 (c : Dev nD) (t : Fin cfg0.N) (f : Fin 512) :
    iblk m c 2 t (ix2 (0 : Fin 1) f) = m ((c : Thread nD τ).loc main_arg2) (ix1 f) := by
  blk_ext! [iblk, V, index2 t]

/-- The staged second weight is the argument. -/
theorem read3 (c : Dev nD) (t : Fin cfg0.N) (f : Fin 512) (o : Fin 2) :
    iblk m c 3 t (ix2 f o) = m ((c : Thread nD τ).loc main_arg3) (ix2 f o) := by
  blk_ext! [iblk, V, index3 t]

/-- The staged second bias is the argument, as one row. -/
theorem read4 (c : Dev nD) (t : Fin cfg0.N) (o : Fin 2) :
    iblk m c 4 t (ix2 (0 : Fin 1) o) = m ((c : Thread nD τ).loc main_arg4) (ix1 o) := by
  blk_ext! [iblk, V, index4 t]

/-- The logits of row `64 * p + q` of feature block `t` are those of slot `q` of row `32 * t + p`. -/
theorem rowLogit_eq (c : Dev nD) (t : Fin cfg0.N) (p : Fin 32) (q : Fin 64) (o : Fin 2) :
    KerBlock.rowLogit (R := 2048) (iblk m c 0 t) (iblk m c 1 t) (iblk m c 2 t) (iblk m c 3 t) (iblk m c 4 t)
        ⟨p.val * 64 + q.val, by omega⟩ o
      = z m c ⟨32 * t.val + p.val, by have := step_lt t; omega⟩ q o := by
  unfold KerBlock.rowLogit z Spec.slotLogit
  congr 1
  · exact funext fun k => read0 m c t p q k
  · exact funext fun k => funext fun f => read1 m c t k f
  · exact funext fun f => read2 m c t f
  · exact funext fun f => funext fun o => read3 m c t f o
  · exact funext fun o => read4 m c t o

/-- Where element `(p, q)` of result block `t` stands in the array. -/
theorem emb5 (t : Fin cfg0.N) (p : Fin 32) (q : Fin 64) :
    (win0_5.blk t).view.emb (ix2 p q) = ix2 (⟨32 * t.val + p.val, by have := step_lt t; omega⟩ : Fin 256) q := by
  blk_ext [index5 t]

/-- The same for the second result. -/
theorem emb6 (t : Fin cfg0.N) (p : Fin 32) (q : Fin 64) :
    (win0_6.blk t).view.emb (ix2 p q) = ix2 (⟨32 * t.val + p.val, by have := step_lt t; omega⟩ : Fin 256) q := by
  blk_ext [index6 t]

/-- A block index is a row of 32 and a slot of 64. -/
theorem idx_eq (y : S32x64.Idx) : ∃ (p : Fin 32) (q : Fin 64), y = ix2 p q := by
  idx_vars y
  exact ⟨_, _, rfl⟩

/-- The first result array after the run. -/
theorem decisions_eq (c : Dev nD) : (dats m 0 c).arrAt 5 cfg0.N = decisions m c := by
  refine (dats m 0 c).arrAt_eq_of_covers 5 _ (by decide +kernel) fun t hf y => ?_
  blk_simp
  rw [after0_5]
  obtain ⟨p, q, rfl⟩ := idx_eq y
  refine (KerBlock.decision_block _ _ _ _ _ p q).trans ?_
  refine Eq.trans ?_ (congrArg (decisions m c) (emb5 t p q)).symm
  exact congrArg (Spec.decided · q) (funext fun k => funext fun o => rowLogit_eq m c t p k o)

/-- The second result array after the run. -/
theorem keeps_eq (c : Dev nD) : (dats m 0 c).arrAt 6 cfg0.N = keeps m c := by
  refine (dats m 0 c).arrAt_eq_of_covers 6 _ (by decide +kernel) fun t hf y => ?_
  blk_simp
  rw [after0_6]
  obtain ⟨p, q, rfl⟩ := idx_eq y
  refine (KerBlock.keep_block _ _ _ _ _ p q).trans ?_
  refine Eq.trans ?_ (congrArg (keeps m c) (emb6 t p q)).symm
  rw [rowLogit_eq, rowLogit_eq]
  rfl

/-- Every execution of the kernel ends with the two results holding the decisions and the keep probabilities, and with
    the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = decisions m c
      ∧ r.2.mem ((c : Thread nD τ).loc main_v0_1) = keeps m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (decisions_eq m c), (h c).2.1.trans (keeps_eq m c), (h c).2.2⟩)
    (Value.run_blocks m ρ)

end Cert.KerArray

end
-- ==== Proof.RefRun.lean ====
/- The reference program read as a list of host operations, and what its run leaves in memory.
   `logits`, `raw`, `repaired` and `keep` are the reference's tensors as plain terms of the arguments; `run` says that
   every execution ends with the two results holding `repaired (raw ·)` and `keep ·` of the logits and with the
   arguments unchanged. -/
module

public import proofs.«01_k».proof.Proof.Gen.ReferenceIdeal
public import Idealize.ShloMosaic.Lib.StableHlo.Run

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- A tensor of shape `s` with elements of type `e`. -/
abbrev Ten (F : FTy → Type) (s : Shape) (e : EltTy) : Type := (⟨s, e⟩ : BufTy).Contents (Elt F)

/-- The greatest value along the last axis, as the pairwise reduction carries it beside the position. -/
def argmaxVal (z : Ten F S256x64x2 .f32) (p : Ten F S256x64x2 .i32) (z₀ : Ten F S_ .f32) (p₀ : Ten F S_ .i32) :
    Ten F S256x64 .f32 :=
  fun j => (Host.argReduce reducer_argmax_f32_i32 z p z₀ p₀ reducesTo_S256x64x2_S256x64_d2 h_S_ j).1

/-- The position of the greatest value along the last axis. -/
def argmaxPos (z : Ten F S256x64x2 .f32) (p : Ten F S256x64x2 .i32) (z₀ : Ten F S_ .f32) (p₀ : Ten F S_ .i32) :
    Ten F S256x64 .i32 :=
  fun j => (Host.argReduce reducer_argmax_f32_i32 z p z₀ p₀ reducesTo_S256x64x2_S256x64_d2 h_S_ j).2

/-- The two logits of every slot: a dense layer, `max(·, 0)`, a dense layer. -/
def logits (x : Ten F S256x64x1024 .f32) (w₁ : Ten F S1024x512 .f32) (b₁ : Ten F S512 .f32)
    (w₂ : Ten F S512x2 .f32) (b₂ : Ten F S2 .f32) : Ten F S256x64x2 .f32 :=
  addf (Host.dotGeneral dot_S256x64x512_S512x2_S256x64x2_2_0_01_1_n_n none
      (maximumf (addf (Host.dotGeneral dot_S256x64x1024_S1024x512_S256x64x512_2_0_01_1_n_n none x w₁)
          (broadcastInDim S256x64x512 ![0, 1, 2] bcast_S1x1x512_S256x64x512_0_1_2 (broadcastInDim S1x1x512 ![2] bcast_S512_S1x1x512_2 b₁)))
        (broadcastInDim S256x64x512 ![] bcast_S_S256x64x512 (constant S_ .f32 0x00000000#32))) w₂)
    (broadcastInDim S256x64x2 ![0, 1, 2] bcast_S1x1x2_S256x64x2_0_1_2 (broadcastInDim S1x1x2 ![2] bcast_S2_S1x1x2_2 b₂))

/-- The decision before the repair of empty rows: 1 where the greatest logit stands at position 1, else 0. -/
def raw (z : Ten F S256x64x2 .f32) : Ten F S256x64 .f32 :=
  uitofp .f32 (cmpi .eq (argmaxPos z (iotaInDim S256x64x2 32 2) (constant S_ .f32 0xFF800000#32) (constantI S_ 32 0#32))
    (broadcastInDim S256x64 ![] bcast_S_S256x64 (constantI S_ 32 1#32)) : Ten F S256x64 .i1)

/-- How many slots of each row are active. -/
def active (d : Ten F S256x64 .f32) : Ten F S256 .i32 :=
  Host.reduce IntOp.addi
    (extui 32 (cmpf .une d (broadcastInDim S256x64 ![] bcast_S_S256x64 (constant S_ .f32 0x00000000#32)) : Ten F S256x64 .i1) natLt_1_32)
    (constantI S_ 32 0#32) reducesTo_S256x64_S256_d1 h_S_

/-- The rank of each slot among the inactive slots of its row, counted from the left and from 1. -/
def rank (d : Ten F S256x64 .f32) : Ten F S256x64 .i32 :=
  Host.reduceWindow IntOp.addi ![1, 64] ![1, 1] ![0, 63] ![0, 0]
    (extui 32 (cmpf .oeq d (broadcastInDim S256x64 ![] bcast_S_S256x64 (constant S_ .f32 0x00000000#32)) : Ten F S256x64 .i1) natLt_1_32)
    (broadcastInDim S_ ![] bcast_S_S_ (constantI S_ 32 0#32) : Ten F S_ .i32) reduceWindows_S256x64_S256x64_w1s1p0_0_w64s1p63_0 h_S_

/-- How many slots each row lacks to the least allowed number, 1. -/
def lacking (d : Ten F S256x64 .f32) : Ten F S256 .i32 :=
  maxsi (broadcastInDim S256 ![] bcast_S_S256 (constantI S_ 32 0#32) : Ten F S256 .i32)
    (subi (broadcastInDim S256 ![] bcast_S_S256 (constantI S_ 32 1#32) : Ten F S256 .i32) (active d))

/-- The repaired decision: in a row with too few active slots, the first inactive ones are set to 1. -/
def repaired (d : Ten F S256x64 .f32) : Ten F S256x64 .f32 :=
  select (andi (andi (cmpf .oeq d (broadcastInDim S256x64 ![] bcast_S_S256x64 (constant S_ .f32 0x00000000#32)) : Ten F S256x64 .i1)
        (cmpi .sle (rank d) (broadcastInDim S256x64 ![0, 1] bcast_S256x1_S256x64_0_1 (broadcastInDim S256x1 ![0] bcast_S256_S256x1_0 (lacking d)))))
      (broadcastInDim S256x64 ![0, 1] bcast_S256x1_S256x64_0_1 (broadcastInDim S256x1 ![0] bcast_S256_S256x1_0
        (cmpi .slt (active d) (broadcastInDim S256 ![] bcast_S_S256 (constantI S_ 32 1#32)) : Ten F S256 .i1))) : Ten F S256x64 .i1)
    (broadcastInDim S256x64 ![] bcast_S_S256x64 (constant S_ .f32 0x3F800000#32)) d

/-- The exponentials of the logits less the greatest of the pair. -/
def expo (z : Ten F S256x64x2 .f32) : Ten F S256x64x2 .f32 :=
  Host.exp (subf z (broadcastInDim S256x64x2 ![0, 1, 2] bcast_S256x64x1_S256x64x2_0_1_2 (broadcastInDim S256x64x1 ![0, 1] bcast_S256x64_S256x64x1_0_1
    (maximumf (broadcastInDim S256x64 ![] bcast_S_S256x64 (constant S_ .f32 0xFF800000#32))
      (Host.reduce FloatOps.maximumf z (constant S_ .f32 0xFF800000#32) reducesTo_S256x64x2_S256x64_d2 h_S_)))))

/-- The probability that a slot is kept: the second component of the softmax of its two logits. -/
def keep (z : Ten F S256x64x2 .f32) : Ten F S256x64 .f32 :=
  shapeCast S256x64 (extractStridedSlice S256x64x1 ![0, 0, 1]
    (Host.divf (expo z) (broadcastInDim S256x64x2 ![0, 1, 2] bcast_S256x64x1_S256x64x2_0_1_2 (broadcastInDim S256x64x1 ![0, 1] bcast_S256x64_S256x64x1_0_1
      (Host.reduceAdd (expo z) (constant S_ .f32 0x00000000#32) reducesTo_S256x64x2_S256x64_d2 h_S_)))) slices_S256x64x2_S256x64x1_0_0_1)
    shapeCasts_S256x64x1_S256x64

/-- The reference's 73 operations in order, a called function's operations standing in its call's place. -/
abbrev ops : List (HloOp τ sig (Elt F)) :=
  [ binary main_arg0 main_arg1 main_v0 ((fun l r => Host.dotGeneral dot_S256x64x1024_S1024x512_S256x64x512_2_0_01_1_n_n none l r) : (⟨S256x64x1024, .f32⟩ : BufTy).Contents (Elt F) → (⟨S1024x512, .f32⟩ : BufTy).Contents (Elt F) → (⟨S256x64x512, .f32⟩ : BufTy).Contents (Elt F)),
    unary main_arg2 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S256x64x512 ![0, 1, 2] bcast_S1x1x512_S256x64x512_0_1_2 : (⟨S1x1x512, .f32⟩ : BufTy).Contents (Elt F) → (⟨S256x64x512, .f32⟩ : BufTy).Contents (Elt F)),
    binary main_v0 main_v2 main_v3 (addf : (⟨S256x64x512, .f32⟩ : BufTy).Contents (Elt F) → (⟨S256x64x512, .f32⟩ : BufTy).Contents (Elt F) → (⟨S256x64x512, .f32⟩ : BufTy).Contents (Elt F)),
    nullary main_cst (constant S_ .f32 0x00000000#32),
    unary main_cst main_v4 (broadcastInDim S256x64x512 ![] bcast_S_S256x64x512 : (⟨S_, .f32⟩ : BufTy).Contents (Elt F) → (⟨S256x64x512, .f32⟩ : BufTy).Contents (Elt F)),
    binary main_v3 main_v4 main_v5 (maximumf : (⟨S256x64x512, .f32⟩ : BufTy).Contents (Elt F) → (⟨S256x64x512, .f32⟩ : BufTy).Contents (Elt F) → (⟨S256x64x512, .f32⟩ : BufTy).Contents (Elt F)),
    binary main_v5 main_arg3 main_v6 ((fun l r => Host.dotGeneral dot_S256x64x512_S512x2_S256x64x2_2_0_01_1_n_n none l r) : (⟨S256x64x512, .f32⟩ : BufTy).Contents (Elt F) → (⟨S512x2, .f32⟩ : BufTy).Contents (Elt F) → (⟨S256x64x2, .f32⟩ : BufTy).Contents (Elt F)),
    unary main_arg4 main_v7 (broadcastInDim S1x1x2 ![2] bcast_S2_S1x1x2_2 : (⟨S2, .f32⟩ : BufTy).Contents (Elt F) → (⟨S1x1x2, .f32⟩ : BufTy).Contents (Elt F)),
    unary main_v7 main_v8 (broadcastInDim S256x64x2 ![0, 1, 2] bcast_S1x1x2_S256x64x2_0_1_2 : (⟨S1x1x2, .f32⟩ : BufTy).Contents (Elt F) → (⟨S256x64x2, .f32⟩ : BufTy).Contents (Elt F)),
    binary main_v6 main_v8 main_v9 (addf : (⟨S256x64x2, .f32⟩ : BufTy).Contents (Elt F) → (⟨S256x64x2, .f32⟩ : BufTy).Contents (Elt F) → (⟨S256x64x2, .f32⟩ : BufTy).Contents (Elt F)),
    TRef.nullary (TRef.of (T := ⟨S256x64x2, .i32⟩) main_call0_v0) (iotaInDim S256x64x2 32 2),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S256x64x2, .f32⟩) main_v9) (TRef.of (T := ⟨S256x64x2, .i32⟩) main_call0_v0) (TRef.of (T := ⟨S_, .f32⟩) main_call0_cst) (TRef.of (T := ⟨S_, .i32⟩) main_call0_c) (TRef.of (T := ⟨S256x64, .f32⟩) main_call0_v1_0) argmaxVal,
    TRef.quaternary (TRef.of (T := ⟨S256x64x2, .f32⟩) main_v9) (TRef.of (T := ⟨S256x64x2, .i32⟩) main_call0_v0) (TRef.of (T := ⟨S_, .f32⟩) main_call0_cst) (TRef.of (T := ⟨S_, .i32⟩) main_call0_c) (TRef.of (T := ⟨S256x64, .i32⟩) main_v10) argmaxPos,
    nullary main_c (constantI S_ 32 1#32),
    unary main_c main_v11 (broadcastInDim S256x64 ![] bcast_S_S256x64 : (⟨S_, .i32⟩ : BufTy).Contents (Elt F) → (⟨S256x64, .i32⟩ : BufTy).Contents (Elt F)),
    binary main_v10 main_v11 main_v12 (cmpi .eq : (⟨S256x64, .i32⟩ : BufTy).Contents (Elt F) → (⟨S256x64, .i32⟩ : BufTy).Contents (Elt F) → (⟨S256x64, .i1⟩ : BufTy).Contents (Elt F)),
    unary main_v12 main_v13 (uitofp .f32 : (⟨S256x64, .i1⟩ : BufTy).Contents (Elt F) → (⟨S256x64, .f32⟩ : BufTy).Contents (Elt F)),
    nullary main_cst_0 (constant S_ .f32 0x00000000#32),
    unary main_cst_0 main_v14 (broadcastInDim S256x64 ![] bcast_S_S256x64 : (⟨S_, .f32⟩ : BufTy).Contents (Elt F) → (⟨S256x64, .f32⟩ : BufTy).Contents (Elt F)),
    binary main_v13 main_v14 main_v15 (cmpf .une : (⟨S256x64, .f32⟩ : BufTy).Contents (Elt F) → (⟨S256x64, .f32⟩ : BufTy).Contents (Elt F) → (⟨S256x64, .i1⟩ : BufTy).Contents (Elt F)),
    unary main_v15 main_v16 ((extui 32 · natLt_1_32) : (⟨S256x64, .i1⟩ : BufTy).Contents (Elt F) → (⟨S256x64, .i32⟩ : BufTy).Contents (Elt F)),
    nullary main_c_1 (constantI S_ 32 0#32),
    binary main_v16 main_c_1 main_v17 ((fun x v => Host.reduce IntOp.addi x v reducesTo_S256x64_S256_d1 h_S_) : (⟨S256x64, .i32⟩ : BufTy).Contents (Elt F) → (⟨S_, .i32⟩ : BufTy).Contents (Elt F) → (⟨S256, .i32⟩ : BufTy).Contents (Elt F)),
    nullary main_c_2 (constantI S_ 32 1#32),
    unary main_c_2 main_v18 (broadcastInDim S256 ![] bcast_S_S256 : (⟨S_, .i32⟩ : BufTy).Contents (Elt F) → (⟨S256, .i32⟩ : BufTy).Contents (Elt F)),
    binary main_v17 main_v18 main_v19 (cmpi .slt : (⟨S256, .i32⟩ : BufTy).Contents (Elt F) → (⟨S256, .i32⟩ : BufTy).Contents (Elt F) → (⟨S256, .i1⟩ : BufTy).Contents (Elt F)),
    nullary main_c_3 (constantI S_ 32 1#32),
    unary main_c_3 main_v20 (broadcastInDim S256 ![] bcast_S_S256 : (⟨S_, .i32⟩ : BufTy).Contents (Elt F) → (⟨S256, .i32⟩ : BufTy).Contents (Elt F)),
    binary main_v20 main_v17 main_v21 (subi : (⟨S256, .i32⟩ : BufTy).Contents (Elt F) → (⟨S256, .i32⟩ : BufTy).Contents (Elt F) → (⟨S256, .i32⟩ : BufTy).Contents (Elt F)),
    nullary main_c_4 (constantI S_ 32 0#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S256, .i32⟩) main_call1_v1) (broadcastInDim S256 ![] bcast_S_S256),
    TRef.binary (TRef.of (T := ⟨S256, .i32⟩) main_call1_v1) (TRef.of (T := ⟨S256, .i32⟩) main_v21) (TRef.of (T := ⟨S256, .i32⟩) main_v22) maxsi,
    nullary main_cst_5 (constant S_ .f32 0x00000000#32),
    unary main_cst_5 main_v23 (broadcastInDim S256x64 ![] bcast_S_S256x64 : (⟨S_, .f32⟩ : BufTy).Contents (Elt F) → (⟨S256x64, .f32⟩ : BufTy).Contents (Elt F)),
    binary main_v13 main_v23 main_v24 (cmpf .oeq : (⟨S256x64, .f32⟩ : BufTy).Contents (Elt F) → (⟨S256x64, .f32⟩ : BufTy).Contents (Elt F) → (⟨S256x64, .i1⟩ : BufTy).Contents (Elt F)),
    unary main_v24 main_v25 ((extui 32 · natLt_1_32) : (⟨S256x64, .i1⟩ : BufTy).Contents (Elt F) → (⟨S256x64, .i32⟩ : BufTy).Contents (Elt F)),
    TRef.nullary (TRef.of (T := ⟨S_, .i32⟩) main_call2_call0_c) (constantI S_ 32 0#32),
    TRef.unary (TRef.of (T := ⟨S_, .i32⟩) main_call2_call0_c) (TRef.of (T := ⟨S_, .i32⟩) main_call2_call0_v0) (broadcastInDim S_ ![] bcast_S_S_),
    TRef.binary (TRef.of (T := ⟨S256x64, .i32⟩) main_v25) (TRef.of (T := ⟨S_, .i32⟩) main_call2_call0_v0) (TRef.of (T := ⟨S256x64, .i32⟩) main_v26) (fun x v => Host.reduceWindow IntOp.addi ![1, 64] ![1, 1] ![0, 63] ![0, 0] x v reduceWindows_S256x64_S256x64_w1s1p0_0_w64s1p63_0 h_S_),
    nullary main_cst_6 (constant S_ .f32 0x00000000#32),
    unary main_cst_6 main_v27 (broadcastInDim S256x64 ![] bcast_S_S256x64 : (⟨S_, .f32⟩ : BufTy).Contents (Elt F) → (⟨S256x64, .f32⟩ : BufTy).Contents (Elt F)),
    binary main_v13 main_v27 main_v28 (cmpf .oeq : (⟨S256x64, .f32⟩ : BufTy).Contents (Elt F) → (⟨S256x64, .f32⟩ : BufTy).Contents (Elt F) → (⟨S256x64, .i1⟩ : BufTy).Contents (Elt F)),
    unary main_v22 main_v29 (broadcastInDim S256x1 ![0] bcast_S256_S256x1_0 : (⟨S256, .i32⟩ : BufTy).Contents (Elt F) → (⟨S256x1, .i32⟩ : BufTy).Contents (Elt F)),
    unary main_v29 main_v30 (broadcastInDim S256x64 ![0, 1] bcast_S256x1_S256x64_0_1 : (⟨S256x1, .i32⟩ : BufTy).Contents (Elt F) → (⟨S256x64, .i32⟩ : BufTy).Contents (Elt F)),
    binary main_v26 main_v30 main_v31 (cmpi .sle : (⟨S256x64, .i32⟩ : BufTy).Contents (Elt F) → (⟨S256x64, .i32⟩ : BufTy).Contents (Elt F) → (⟨S256x64, .i1⟩ : BufTy).Contents (Elt F)),
    binary main_v28 main_v31 main_v32 (andi : (⟨S256x64, .i1⟩ : BufTy).Contents (Elt F) → (⟨S256x64, .i1⟩ : BufTy).Contents (Elt F) → (⟨S256x64, .i1⟩ : BufTy).Contents (Elt F)),
    unary main_v19 main_v33 (broadcastInDim S256x1 ![0] bcast_S256_S256x1_0 : (⟨S256, .i1⟩ : BufTy).Contents (Elt F) → (⟨S256x1, .i1⟩ : BufTy).Contents (Elt F)),
    unary main_v33 main_v34 (broadcastInDim S256x64 ![0, 1] bcast_S256x1_S256x64_0_1 : (⟨S256x1, .i1⟩ : BufTy).Contents (Elt F) → (⟨S256x64, .i1⟩ : BufTy).Contents (Elt F)),
    binary main_v32 main_v34 main_v35 (andi : (⟨S256x64, .i1⟩ : BufTy).Contents (Elt F) → (⟨S256x64, .i1⟩ : BufTy).Contents (Elt F) → (⟨S256x64, .i1⟩ : BufTy).Contents (Elt F)),
    nullary main_cst_7 (constant S_ .f32 0x3F800000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S256x64, .f32⟩) main_call3_v1) (broadcastInDim S256x64 ![] bcast_S_S256x64),
    TRef.ternary (TRef.of (T := ⟨S256x64, .i1⟩) main_v35) (TRef.of (T := ⟨S256x64, .f32⟩) main_call3_v1) (TRef.of (T := ⟨S256x64, .f32⟩) main_v13) (TRef.of (T := ⟨S256x64, .f32⟩) main_v36) select,
    nullary main_cst_8 (constant S_ .f32 0xFF800000#32),
    binary main_v9 main_cst_8 main_v37 ((fun x v => Host.reduce FloatOps.maximumf x v reducesTo_S256x64x2_S256x64_d2 h_S_) : (⟨S256x64x2, .f32⟩ : BufTy).Contents (Elt F) → (⟨S_, .f32⟩ : BufTy).Contents (Elt F) → (⟨S256x64, .f32⟩ : BufTy).Contents (Elt F)),
    nullary main_cst_9 (constant S_ .f32 0xFF800000#32),
    unary main_cst_9 main_v38 (broadcastInDim S256x64 ![] bcast_S_S256x64 : (⟨S_, .f32⟩ : BufTy).Contents (Elt F) → (⟨S256x64, .f32⟩ : BufTy).Contents (Elt F)),
    binary main_v38 main_v37 main_v39 (maximumf : (⟨S256x64, .f32⟩ : BufTy).Contents (Elt F) → (⟨S256x64, .f32⟩ : BufTy).Contents (Elt F) → (⟨S256x64, .f32⟩ : BufTy).Contents (Elt F)),
    unary main_v39 main_v40 (broadcastInDim S256x64x1 ![0, 1] bcast_S256x64_S256x64x1_0_1 : (⟨S256x64, .f32⟩ : BufTy).Contents (Elt F) → (⟨S256x64x1, .f32⟩ : BufTy).Contents (Elt F)),
    unary main_v40 main_v41 (broadcastInDim S256x64x2 ![0, 1, 2] bcast_S256x64x1_S256x64x2_0_1_2 : (⟨S256x64x1, .f32⟩ : BufTy).Contents (Elt F) → (⟨S256x64x2, .f32⟩ : BufTy).Contents (Elt F)),
    binary main_v9 main_v41 main_v42 (subf : (⟨S256x64x2, .f32⟩ : BufTy).Contents (Elt F) → (⟨S256x64x2, .f32⟩ : BufTy).Contents (Elt F) → (⟨S256x64x2, .f32⟩ : BufTy).Contents (Elt F)),
    unary main_v42 main_v43 (Host.exp : (⟨S256x64x2, .f32⟩ : BufTy).Contents (Elt F) → (⟨S256x64x2, .f32⟩ : BufTy).Contents (Elt F)),
    nullary main_cst_10 (constant S_ .f32 0x00000000#32),
    binary main_v43 main_cst_10 main_v44 ((fun x v => Host.reduceAdd x v reducesTo_S256x64x2_S256x64_d2 h_S_) : (⟨S256x64x2, .f32⟩ : BufTy).Contents (Elt F) → (⟨S_, .f32⟩ : BufTy).Contents (Elt F) → (⟨S256x64, .f32⟩ : BufTy).Contents (Elt F)),
    unary main_v44 main_v45 (broadcastInDim S256x64x1 ![0, 1] bcast_S256x64_S256x64x1_0_1 : (⟨S256x64, .f32⟩ : BufTy).Contents (Elt F) → (⟨S256x64x1, .f32⟩ : BufTy).Contents (Elt F)),
    unary main_v45 main_v46 (broadcastInDim S256x64x2 ![0, 1, 2] bcast_S256x64x1_S256x64x2_0_1_2 : (⟨S256x64x1, .f32⟩ : BufTy).Contents (Elt F) → (⟨S256x64x2, .f32⟩ : BufTy).Contents (Elt F)),
    binary main_v43 main_v46 main_v47 (Host.divf : (⟨S256x64x2, .f32⟩ : BufTy).Contents (Elt F) → (⟨S256x64x2, .f32⟩ : BufTy).Contents (Elt F) → (⟨S256x64x2, .f32⟩ : BufTy).Contents (Elt F)),
    unary main_v47 main_v48 ((extractStridedSlice S256x64x1 ![0, 0, 1] · slices_S256x64x2_S256x64x1_0_0_1) : (⟨S256x64x2, .f32⟩ : BufTy).Contents (Elt F) → (⟨S256x64x1, .f32⟩ : BufTy).Contents (Elt F)),
    reshape main_v48 main_v49 (rfl : (.f32 : EltTy) = .f32) shapeCasts_S256x64x1_S256x64 ]

set_option maxRecDepth 8192 in
set_option maxHeartbeats 4000000 in
/-- The printed main is that list run in order. -/
theorem main_eq (c : Dev nD) : main (F := F) c = seq ops := rfl

/-- No buffer of the reference is scoped. -/
theorem scopedRefs_eq : (Finset.univ.filter fun b : Ref sig .tc => b.isScoped) = ∅ := by decide

/-- No semaphore of the reference is scoped. -/
theorem scopedSems_eq : (Finset.univ.filter fun sm : SemLoc sig => sm.isScoped .tc) = ∅ := by decide

set_option maxRecDepth 8192 in
/-- Every operation touches only the device's own buffers. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., unary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub ..⟩

/-- An argument, or any other buffer, as launched. -/
abbrev at₀ (m : (ℓ : Loc nD τ sig) → Buf (Elt F) ℓ) (c : Dev nD) (b : Ref sig .tc) : Buf (Elt F) ((c.tc : Thread nD τ).loc b) :=
  m ((c.tc : Thread nD τ).loc b)

/-- The logits of the launched arguments. -/
def logitsAt (m : (ℓ : Loc nD τ sig) → Buf (Elt F) ℓ) (c : Dev nD) : Ten F S256x64x2 .f32 :=
  logits (at₀ m c main_arg0) (at₀ m c main_arg1) (at₀ m c main_arg2) (at₀ m c main_arg3) (at₀ m c main_arg4)

set_option maxRecDepth 8192 in
set_option maxHeartbeats 28000000 in
/-- Every execution of the reference ends with the repaired decision and the keep probability of the launched
    arguments in its two results, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = repaired (raw (logitsAt m c))
      ∧ r.2.mem ((c.tc : Thread nD τ).loc main_v49) = keep (logitsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v36).trans (by simp only [ops, TRef.binary, TRef.nullary, TRef.ternary, TRef.quaternary, TRef.unary, TRef.toBuf, TRef.ofBuf, cast_eq]; after_results_simp <;> rfl),
      (h c main_v49).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl),
      (h c main_arg3).trans (by simp only [ops, TRef.binary, TRef.nullary, TRef.ternary, TRef.quaternary, TRef.unary, TRef.toBuf, TRef.ofBuf, cast_eq]; after_results_simp <;> rfl),
      (h c main_arg4).trans (by simp only [ops, TRef.binary, TRef.nullary, TRef.ternary, TRef.quaternary, TRef.unary, TRef.toBuf, TRef.ofBuf, cast_eq]; after_results_simp <;> rfl),
      (h c main_arg5).trans (by simp only [ops, TRef.binary, TRef.nullary, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.Ref

end
-- ==== Proof.RefRaw.lean ====
/- The reference's decision before the repair of empty rows: the position of the greater of two logits. -/
module

public import proofs.«01_k».proof.Proof.RefRun
public import proofs.«01_k».proof.Proof.Spec
public import proofs.«01_k».proof.Proof.Consts
public import Idealize.ShloMosaic.PureOps.Ideal.Laws
public import Mathlib.Data.List.Sort

@[expose] public section

noncomputable section

namespace Cert.Ref

open Cert.ReferenceIdeal Cert.ReferenceIdeal.Gen Idealize.ShloMosaic

/-- The places of the two logits of slot `n` of row `b`, in the order in which the reduction visits them. -/
theorem places (b : Fin 256) (n : Fin 64) :
    ((List.finRange S256x64x2.numel).filter fun r =>
        reducesTo_S256x64x2_S256x64_d2.drop (S256x64x2.rowMajor.symm r) = (ix2 b n : S256x64.Idx))
      = [S256x64x2.rowMajor (ix3 b n (0 : Fin 2)), S256x64x2.rowMajor (ix3 b n (1 : Fin 2))] := by
  refine List.Pairwise.eq_of_mem_iff (r := (· < ·)) ((List.sortedLT_finRange _).pairwise.filter _) ?_ fun r => ?_
  · simp only [List.pairwise_cons, List.mem_singleton, forall_eq, List.not_mem_nil, false_imp_iff, implies_true,
      List.Pairwise.nil, and_true]
    rw [Fin.lt_def, rowMajor_val3 _ 128 2 rfl rfl, rowMajor_val3 _ 128 2 rfl rfl]
    show b.val * 128 + n.val * 2 + 0 < b.val * 128 + n.val * 2 + 1
    omega
  · obtain ⟨i, rfl⟩ := S256x64x2.rowMajor.surjective r
    simp only [List.mem_filter, List.mem_finRange, true_and, Equiv.symm_apply_apply, decide_eq_true_eq, List.mem_cons,
      List.not_mem_nil, or_false, EmbeddingLike.apply_eq_iff_eq]
    obtain ⟨b', n', o, rfl⟩ : ∃ (b' : Fin 256) (n' : Fin 64) (o : Fin 2), i = ix3 b' n' o := by
      idx_vars i
      exact ⟨_, _, _, rfl⟩
    constructor
    · intro h
      have h₀ := congrArg Fin.val (congrFun h 0)
      have h₁ := congrArg Fin.val (congrFun h 1)
      rw [Shape.ReducesTo.drop_apply_val_of_eq _ _ 0 0] at h₀
      rw [Shape.ReducesTo.drop_apply_val_of_eq _ _ 1 1] at h₁
      obtain rfl : b' = b := Fin.ext h₀
      obtain rfl : n' = n := Fin.ext h₁
      fin_cases o
      · exact .inl rfl
      · exact .inr rfl
    · have key (o : Fin 2) : reducesTo_S256x64x2_S256x64_d2.drop (ix3 b n o) = (ix2 b n : S256x64.Idx) := by
        funext a
        apply Fin.ext
        fin_cases a
        · exact Shape.ReducesTo.drop_apply_val_of_eq reducesTo_S256x64x2_S256x64_d2 _ 0 0
        · exact Shape.ReducesTo.drop_apply_val_of_eq reducesTo_S256x64x2_S256x64_d2 _ 1 1
      rintro (h | h) <;> rw [h] <;> exact key _

/-- The pairwise step of the reduction, on a first pair `(⊥, 0)` and then the two logits at positions 0 and 1, ends at
    position 1 exactly when the second logit is the greater. -/
theorem step_pair (a b : EReal) :
    (reducer_argmax_f32_i32 (F := Ideal) (reducer_argmax_f32_i32 (F := Ideal) (⊥, 0#32) (a, 0#32)) (b, 1#32)).2
      = if a < b then 1#32 else 0#32 := by
  have first : reducer_argmax_f32_i32 (F := Ideal) (⊥, 0#32) (a, 0#32) = (a, 0#32) := by
    simp [reducer_argmax_f32_i32, Scalar.select, Ideal.cmpf_def, Ideal.cmp, IntOp.ori, IntOp.andi, IntOp.cmpi]
  rw [first]
  rcases lt_trichotomy a b with h | h | h
  · simp [reducer_argmax_f32_i32, Scalar.select, Ideal.cmpf_def, Ideal.cmp, IntOp.ori, IntOp.andi, IntOp.cmpi, h, h.ne, h.not_gt]
  · simp [reducer_argmax_f32_i32, Scalar.select, Ideal.cmpf_def, Ideal.cmp, IntOp.ori, IntOp.andi, IntOp.cmpi, h]
  · simp [reducer_argmax_f32_i32, Scalar.select, Ideal.cmpf_def, Ideal.cmp, IntOp.ori, IntOp.andi, IntOp.cmpi, h, h.ne', h.not_gt]

/-- The reference's first decision: 1 exactly where the second logit is the greater. -/
theorem raw_apply (z : Ten Ideal S256x64x2 .f32) (b : Fin 256) (n : Fin 64) :
    raw z (ix2 b n) = if z (ix3 b n 0) < z (ix3 b n 1) then 1 else 0 := by
  have pos : argmaxPos z (iotaInDim S256x64x2 32 2) (constant (F := Ideal) S_ .f32 0xFF800000#32) (constantI S_ 32 0#32) (ix2 b n)
      = if z (ix3 b n 0) < z (ix3 b n 1) then 1#32 else 0#32 := by
    unfold argmaxPos
    rw [Ideal.argReduce_eq_reduce2, Host.reduce2_eq_foldl_fiber, Host.argReduceFiber, places]
    simp only [List.map_cons, List.map_nil, List.foldl_cons, List.foldl_nil, Equiv.symm_apply_apply]
    refine Eq.trans ?_ (step_pair _ _)
    pointwise []
    rw [Consts.neg_inf]
  pointwise [raw]
  rw [pos]
  split_ifs
  · show (((IntOp.cmpi CmpIPredicate.eq 1#32 1#32).toNat : ℝ) : EReal) = 1
    norm_num [IntOp.cmpi]
    rfl
  · show (((IntOp.cmpi CmpIPredicate.eq 0#32 1#32).toNat : ℝ) : EReal) = 0
    norm_num [IntOp.cmpi]

end Cert.Ref

end
-- ==== Proof.RefRepair.lean ====
/- The reference's repair of rows with no active slot: it counts the active slots of a row and the rank of each inactive
   one, and sets the first inactive slots of a row that has too few active ones. The least allowed number is 1, so that
   only rows with none change, and in them only slot 0. -/
module

public import proofs.«01_k».proof.Proof.RefRun
public import proofs.«01_k».proof.Proof.Spec
public import proofs.«01_k».proof.Proof.Consts
public import Idealize.ShloMosaic.Lib.Tactic.CleanTypes

@[expose] public section

noncomputable section

namespace Cert.Ref

open Cert.ReferenceIdeal Cert.ReferenceIdeal.Gen Idealize.ShloMosaic

/-- Adding up the 32-bit words of indicators counts the set ones. -/
theorem fold_words (s : Finset (Fin 64)) (P : Fin 64 → Prop) [DecidablePred P] :
    Finset.fold IntOp.addi 0#32 (fun k => BitVec.setWidth 32 (BitVec.ofBool (decide (P k)))) s
      = BitVec.ofNat 32 (s.filter P).card := by
  induction s using Finset.induction_on with
  | empty => rfl
  | insert k s hk ih =>
    rw [Finset.fold_insert hk, ih, Finset.filter_insert]
    by_cases h : P k
    · have h' : k ∉ s.filter P := fun hm => hk (Finset.mem_filter.1 hm).1
      rw [if_pos h, Finset.card_insert_of_notMem h']
      simp [h, IntOp.addi, BitVec.ofNat_add, add_comm]
    · rw [if_neg h]
      simp [h, IntOp.addi]

variable (d : Ten Ideal S256x64 .f32) (b : Fin 256)

open Classical in
/-- The count of active slots of row `b`. -/
theorem active_apply : active d (ix1 b) = BitVec.ofNat 32 (Finset.univ.filter fun k : Fin 64 => d (ix2 b k) ≠ 0).card := by
  pointwise [active]
  clean_types
  rw [← fold_words]
  congr!

/-- Over a row of ones, the running sum up to slot `n` is `n + 1`. -/
theorem count : ∀ n : Fin 64, (List.finRange (⟨2, ![1, 64]⟩ : Shape).numel).foldl
    (fun r k => IntOp.addi r (if 63 ≤ n.val + ((⟨2, ![1, 64]⟩ : Shape).rowMajor.symm k 1).val then 1#32 else 0#32)) 0#32
      = BitVec.ofNat 32 (n.val + 1) := by
  decide +kernel

/-- In a row with no active slot the rank of slot `n` is `n + 1`. -/
theorem rank_apply (h : ∀ k : Fin 64, d (ix2 b k) = 0) (n : Fin 64) : rank d (ix2 b n) = BitVec.ofNat 32 (n.val + 1) := by
  unfold rank Host.reduceWindow
  pointwise []
  refine Eq.trans ?_ (count n)
  refine List.foldl_ext _ _ _ fun r k _ => ?_
  have hk := ((⟨2, ![1, 64]⟩ : Shape).rowMajor.symm k 1).isLt
  have hk0 := ((⟨2, ![1, 64]⟩ : Shape).rowMajor.symm k 0).isLt
  congr 1
  by_cases h63 : 63 ≤ n.val + ((⟨2, ![1, 64]⟩ : Shape).rowMajor.symm k 1).val
  · rw [dif_pos ⟨h63, by simp at hk; omega⟩, if_pos h63]
    rw [show ∀ q : S256x64.Idx, q 0 = b → d q = 0 from fun q hq => by
      idx_vars q
      obtain rfl := hq
      exact h _]
    · simp
    · apply Fin.ext
      simp at hk0 ⊢
      exact hk0
  · rw [dif_neg fun hn => h63 hn.1, if_neg h63]

open Classical in
/-- The repaired decision: 1 for an active slot and for slot 0 of a row that has no active slot. -/
theorem repaired_apply (A : Fin 64 → Prop) (h : ∀ k : Fin 64, d (ix2 b k) = if A k then 1 else 0) (n : Fin 64) :
    repaired d (ix2 b n) = if A n ∨ ((∀ k, ¬ A k) ∧ n = 0) then 1 else 0 := by
  pointwise [repaired, lacking]
  have hA (k : Fin 64) : d (ix2 b k) ≠ 0 ↔ A k := by
    rw [h k]; split_ifs with hk <;> simp [hk]
  by_cases none : ∀ k, ¬ A k
  · have act : active d (ix1 b) = 0#32 := by
      rw [active_apply]
      have : (Finset.univ.filter fun k : Fin 64 => d (ix2 b k) ≠ 0) = ∅ :=
        Finset.filter_eq_empty_iff.2 fun k _ hk => none k ((hA k).1 hk)
      rw [this]; rfl
    have zero (k : Fin 64) : d (ix2 b k) = 0 := by rw [h k, if_neg (none k)]
    rw [act, rank_apply d b zero n, zero n]
    have cmp : ∀ n : Fin 64, IntOp.cmpi CmpIPredicate.sle (BitVec.ofNat 32 (n.val + 1)) (IntOp.maxsi (0#32) (IntOp.subi 1#32 0#32))
        = BitVec.ofBool (decide (n = 0)) := by decide +kernel
    rw [cmp n]
    by_cases hn : n = 0 <;> simp [hn, none, Scalar.select, IntOp.andi, IntOp.cmpi]
  · have slt : IntOp.cmpi CmpIPredicate.slt (active d (ix1 b)) 1#32 = 0#1 := by
      rw [active_apply]
      have le : (Finset.univ.filter fun k : Fin 64 => d (ix2 b k) ≠ 0).card ≤ 64 := Finset.card_le_univ _
      have pos : 0 < (Finset.univ.filter fun k : Fin 64 => d (ix2 b k) ≠ 0).card := by
        push Not at none
        obtain ⟨k, hk⟩ := none
        exact Finset.card_pos.2 ⟨k, Finset.mem_filter.2 ⟨Finset.mem_univ _, (hA k).2 hk⟩⟩
      have words : ∀ c : Fin 65, 0 < c.val → IntOp.cmpi CmpIPredicate.slt (BitVec.ofNat 32 c.val) 1#32 = 0#1 := by
        decide +kernel
      exact words ⟨_, Nat.lt_succ_of_le le⟩ pos
    rw [slt, h n]
    simp [none, Scalar.select, IntOp.andi]

end Cert.Ref

end
-- ==== Proof.RefKeep.lean ====
/- The reference's logits and its keep probability, element by element. -/
module

public import proofs.«01_k».proof.Proof.RefRun
public import proofs.«01_k».proof.Proof.Spec
public import proofs.«01_k».proof.Proof.Consts
public import Idealize.ShloMosaic.Lib.Tactic.CleanTypes

@[expose] public section

noncomputable section

namespace Cert.Ref

open Cert.ReferenceIdeal Cert.ReferenceIdeal.Gen Idealize.ShloMosaic

/-- The reference's logits are the logits of the plain mathematics. -/
theorem logits_apply (x : Ten Ideal S256x64x1024 .f32) (w₁ : Ten Ideal S1024x512 .f32) (b₁ : Ten Ideal S512 .f32)
    (w₂ : Ten Ideal S512x2 .f32) (b₂ : Ten Ideal S2 .f32) (b : Fin 256) (n : Fin 64) (o : Fin 2) :
    logits x w₁ b₁ w₂ b₂ (ix3 b n o) = Spec.slotLogit x w₁ b₁ w₂ b₂ b n o := by
  pointwise [logits]
  rfl

/-- An exponential of the reference: of a logit less the greater of the pair. -/
theorem expo_apply (z : Ten Ideal S256x64x2 .f32) (b : Fin 256) (n : Fin 64) (o : Fin 2) :
    expo z (ix3 b n o) = Ideal.exp (z (ix3 b n o) - max (z (ix3 b n 0)) (z (ix3 b n 1))) := by
  pointwise [expo]
  clean_types
  have fold : Finset.fold max (⊥ : EReal) (fun o => z (ix3 b n o)) Finset.univ = max (z (ix3 b n 0)) (z (ix3 b n 1)) :=
    le_antisymm
      ((Finset.fold_max_le _).2 ⟨bot_le, fun o _ => by
        fin_cases o
        · exact le_max_left _ _
        · exact le_max_right _ _⟩)
      (max_le ((Finset.le_fold_max _).2 (.inr ⟨0, Finset.mem_univ _, le_rfl⟩))
        ((Finset.le_fold_max _).2 (.inr ⟨1, Finset.mem_univ _, le_rfl⟩)))
  rw [Consts.neg_inf, fold, max_eq_right bot_le]

/-- The keep probability of the reference: the second exponential over the sum of both. -/
theorem keep_apply (z : Ten Ideal S256x64x2 .f32) (b : Fin 256) (n : Fin 64) :
    keep z (ix2 b n) = Ideal.div (expo z (ix3 b n 1)) (expo z (ix3 b n 0) + expo z (ix3 b n 1)) := by
  pointwise [keep]
  rw [Fin.sum_univ_two]

end Cert.Ref

end
-- ==== Proof.Equation.lean ====
/- The equation between the two forms of the keep probability: for real logits `a` and `b`, the second component of the
   softmax of `(a, b)` is `1 / (1 + 2 ^ (-(b - a) / log 2))`. With it, that logits of real arguments are real. -/
module

public import proofs.«01_k».proof.Proof.Spec

@[expose] public section

noncomputable section

namespace Cert.Equation

open Idealize.ShloMosaic

/-- An extended real that is a real number. -/
def Real? (x : EReal) : Prop := ∃ r : ℝ, x = r

/-- A sum of two reals is real. -/
theorem real_add {x y : EReal} : Real? x → Real? y → Real? (x + y) := by
  rintro ⟨a, rfl⟩ ⟨b, rfl⟩; exact ⟨a + b, (EReal.coe_add a b).symm⟩

/-- A product of two reals is real. -/
theorem real_mul {x y : EReal} : Real? x → Real? y → Real? (x * y) := by
  rintro ⟨a, rfl⟩ ⟨b, rfl⟩; exact ⟨a * b, (EReal.coe_mul a b).symm⟩

/-- The greater of two reals is real. -/
theorem real_max {x y : EReal} (hx : Real? x) (hy : Real? y) : Real? (max x y) := by
  rcases max_choice x y with h | h <;> rw [h] <;> assumption

/-- A finite sum of reals is real. -/
theorem real_sum {ι : Type} (s : Finset ι) (f : ι → EReal) (h : ∀ i, Real? (f i)) : Real? (∑ i ∈ s, f i) :=
  Finset.sum_induction f Real? (fun _ _ => real_add) ⟨0, rfl⟩ fun i _ => h i

/-- The logits of a slot are real when its features, the weights and the biases are. -/
theorem real_logit {x : Fin 1024 → EReal} {w₁ : Fin 1024 → Fin 512 → EReal} {b₁ : Fin 512 → EReal}
    {w₂ : Fin 512 → Fin 2 → EReal} {b₂ : Fin 2 → EReal} (hx : ∀ k, Real? (x k)) (hw₁ : ∀ k f, Real? (w₁ k f))
    (hb₁ : ∀ f, Real? (b₁ f)) (hw₂ : ∀ f o, Real? (w₂ f o)) (hb₂ : ∀ o, Real? (b₂ o)) (o : Fin 2) :
    Real? (Spec.logit x w₁ b₁ w₂ b₂ o) :=
  real_add (real_sum _ _ fun f => real_mul
    (real_max (real_add (real_sum _ _ fun k => real_mul (hx k) (hw₁ k f)) (hb₁ f)) ⟨0, rfl⟩) (hw₂ f o)) (hb₂ o)

/-- `2 ^ (-d / log 2)` is `exp (-d)`. -/
theorem two_rpow (d : ℝ) : (2 : ℝ) ^ (d * -((Real.log 2)⁻¹)) = Real.exp (-d) := by
  have h : Real.log 2 ≠ 0 := (Real.log_pos one_lt_two).ne'
  rw [Real.rpow_def_of_pos two_pos]
  congr 1
  field_simp

/-- The two forms over the reals, with any number `M` taken off both logits. -/
theorem sigmoid_eq (a b M : ℝ) :
    1 / (1 + Real.exp (-(b - a))) = Real.exp (b - M) / (Real.exp (a - M) + Real.exp (b - M)) := by
  have h : Real.exp (a - M) = Real.exp (b - M) * Real.exp (-(b - a)) := by
    rw [← Real.exp_add]; congr 1; ring
  have := Real.exp_pos (b - M)
  have := Real.exp_pos (-(b - a))
  rw [h, div_eq_div_iff (by positivity) (by positivity)]
  ring

/-- The keep probability from the difference of two real logits is the second component of their softmax. -/
theorem kept_eq_softmax {a b : EReal} (ha : Real? a) (hb : Real? b) :
    Spec.kept (b - a) = Ideal.div (Ideal.exp (b - max a b)) (Ideal.exp (a - max a b) + Ideal.exp (b - max a b)) := by
  obtain ⟨M, hM⟩ := real_max ha hb
  rw [hM]
  obtain ⟨a, rfl⟩ := ha
  obtain ⟨b, rfl⟩ := hb
  unfold Spec.kept
  rw [← EReal.coe_sub, ← EReal.coe_sub, ← EReal.coe_sub, ← EReal.coe_mul, Ideal.exp2_coe, Ideal.exp_coe, Ideal.exp_coe,
    ← EReal.coe_one, ← EReal.coe_add, ← EReal.coe_add]
  have h₁ : (1 + Real.rpow 2 ((b - a) * -((Real.log 2)⁻¹)) : ℝ) = 1 + Real.exp (-(b - a)) :=
    congrArg (1 + ·) (two_rpow (b - a))
  have := Real.exp_pos (b - M)
  have := Real.exp_pos (a - M)
  have := Real.exp_pos (-(b - a))
  rw [h₁, Ideal.div_coe (by positivity), Ideal.div_coe (by positivity), ← EReal.coe_mul, ← EReal.coe_mul, EReal.coe_eq_coe_iff,
    one_mul, sigmoid_eq a b M, mul_one_div]

end Cert.Equation

end
-- ==== Proof.Agree.lean ====
/- The two programs' results, element by element, as arrays of the same arguments: the decisions are equal for every
   extended real argument, the keep probabilities for every real one. -/
module

public import proofs.«01_k».proof.Proof.KerArray
public import proofs.«01_k».proof.Proof.RefRaw
public import proofs.«01_k».proof.Proof.RefRepair
public import proofs.«01_k».proof.Proof.RefKeep
public import proofs.«01_k».proof.Proof.Equation

@[expose] public section

noncomputable section

namespace Cert.Agree

open Cert.ReferenceIdeal Cert.ReferenceIdeal.Gen Idealize.ShloMosaic Cert.Ref Cert.Equation

variable (x : Ten Ideal S256x64x1024 .f32) (w₁ : Ten Ideal S1024x512 .f32) (b₁ : Ten Ideal S512 .f32)
  (w₂ : Ten Ideal S512x2 .f32) (b₂ : Ten Ideal S2 .f32)

/-- The reference's decision is that of the plain mathematics. -/
theorem decision (i : S256x64.Idx) :
    repaired (raw (logits x w₁ b₁ w₂ b₂)) i = Spec.decided (Spec.slotLogit x w₁ b₁ w₂ b₂ (i 0)) (i 1) := by
  obtain ⟨b, n, rfl⟩ : ∃ (b : Fin 256) (n : Fin 64), i = ix2 b n := by
    idx_vars i
    exact ⟨_, _, rfl⟩
  refine repaired_apply _ b (Spec.Active (Spec.slotLogit x w₁ b₁ w₂ b₂ b)) (fun k => ?_) n
  rw [raw_apply, logits_apply, logits_apply]
  unfold Spec.Active
  split_ifs <;> rfl

/-- The reference's keep probability is that of the plain mathematics where the arguments are real. -/
theorem keep_probability (hx : ∀ i, Real? (x i)) (hw₁ : ∀ i, Real? (w₁ i)) (hb₁ : ∀ i, Real? (b₁ i))
    (hw₂ : ∀ i, Real? (w₂ i)) (hb₂ : ∀ i, Real? (b₂ i)) (i : S256x64.Idx) :
    keep (logits x w₁ b₁ w₂ b₂) i
      = Spec.kept (Spec.slotLogit x w₁ b₁ w₂ b₂ (i 0) (i 1) 1 - Spec.slotLogit x w₁ b₁ w₂ b₂ (i 0) (i 1) 0) := by
  obtain ⟨b, n, rfl⟩ : ∃ (b : Fin 256) (n : Fin 64), i = ix2 b n := by
    idx_vars i
    exact ⟨_, _, rfl⟩
  rw [keep_apply, expo_apply, expo_apply, logits_apply, logits_apply]
  have real (o : Fin 2) : Real? (Spec.slotLogit x w₁ b₁ w₂ b₂ b n o) :=
    real_logit (fun _ => hx _) (fun _ _ => hw₁ _) (fun _ => hb₁ _) (fun _ _ => hw₂ _) (fun _ => hb₂ _) o
  exact (kept_eq_softmax (real 0) (real 1)).symm

end Cert.Agree

end
-- ==== Proof.Finite.lean ====
/- The precondition `finite` and the mask `decision_only`, read: every float argument is real; the mask selects the
   whole first result and nothing of the second. -/
module

public import proofs.«01_k».proof.Pre_finite
public import proofs.«01_k».proof.On_decision_only
public import proofs.«01_k».proof.Proof.Consts
public import proofs.«01_k».proof.Proof.Equation

@[expose] public section

noncomputable section

namespace Cert.Finite

open Idealize.ShloMosaic Cert.Equation

/-- The shape relations of the precondition hold. -/
instance preFacts : Cert.Pre_finite.Facts where
  bcast_S_S256x64x1024 := by decide
  bcast_S_S1024x512 := by decide
  bcast_S_S512 := by decide
  bcast_S_S512x2 := by decide
  bcast_S_S2 := by decide

/-- The shape relation of the mask holds. -/
instance onFacts : Cert.On_decision_only.Facts where
  bcast_S_S256x64 := by decide

/-- A number whose magnitude is below the greatest is real. -/
theorem real_of_abs_lt {a : EReal} (h : BitVec.ofBool (decide (max a (-a) < ⊤)) = 1#1) : Real? a := by
  have lt : max a (-a) < ⊤ := by
    by_contra hn
    rw [decide_eq_false hn] at h
    exact absurd h (by decide)
  induction a with
  | bot => simp at lt
  | coe r => exact ⟨r, rfl⟩
  | top => simp at lt

/-- An array of which the comparison "magnitude below infinity" holds everywhere is an array of real numbers. -/
theorem real_of_below {s : Shape} (x : FVec Ideal s .f32) (h : (⟨0, ![]⟩ : Shape).BroadcastsInDim s ![])
    (below : cmpf .olt (Host.absf x) (broadcastInDim s ![] h (constant ⟨0, ![]⟩ .f32 0x7F800000#32)) = fun _ => 1#1) (i : s.Idx) :
    Real? (x i) := by
  refine real_of_abs_lt ?_
  rw [← Consts.pos_inf]
  exact congrFun below i

end Cert.Finite

end
-- ==== Proof.lean ====
/- The proof of the certificate's claim (proof/Defs.lean): the three programs leave their arguments unchanged and every
   semaphore at zero; the idealized kernel differs from the kernel by one named constant; its decisions are the
   reference's for every argument, and both its results are the reference's for every finite argument. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Agree
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments unchanged and every semaphore at zero. -/
theorem reference_frame : quiescent_ReferenceIdeal := fun m g _ =>
  (θ_run Cert.ReferenceIdeal.defs _ _).mono
    (fun r h => ⟨fun c => (h c).2.2, Idealize.ShloMosaic.sem_eq_zero_of_no_sems (by decide) r.2⟩) (Cert.Ref.run m g)

/-- On equal arguments the reference's logits are written with the kernel's arguments. -/
theorem logits_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h₀ : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h₁ : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h₂ : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h₃ : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h₄ : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.Ref.logitsAt m' c = Cert.Ref.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := by
  unfold Cert.Ref.logitsAt Cert.Ref.at₀
  rw [h₀, h₁, h₂, h₃, h₄]

/-- The decisions of the two programs are equal for every argument. -/
theorem decisions_agree : algebraic_KernelIdeal_ReferenceIdeal_on_decision_only := fun m g m' g' _ same => by
  refine ⟨Cert.KerArray.decisions m, Cert.KerArray.keeps m, ?_, ?_⟩
  · exact (θ_run Cert.KernelIdeal.defs _ _).mono
      (fun r h c => ⟨fun i _ => congrFun (h c).1 i, fun i _ => congrFun (h c).2.1 i, (h c).2.2⟩) (Cert.KerArray.run m g)
  · refine (θ_run Cert.ReferenceIdeal.defs _ _).mono
      (fun r h c => ⟨fun i _ => (congrFun (h c).1 i).trans ?_, fun i set => absurd set ?_, (h c).2.2⟩) (Cert.Ref.run m' g')
    · obtain ⟨h₀, h₁, h₂, h₃, h₄, _⟩ := same c
      rw [logits_agree m m' c h₀ h₁ h₂ h₃ h₄]
      exact Cert.Agree.decision _ _ _ _ _ i
    · exact (by decide : (0#1 : BitVec 1) ≠ 1#1)

/-- Both results of the two programs are equal for finite arguments. -/
theorem results_agree : algebraic_KernelIdeal_ReferenceIdeal_pre_finite := fun m g m' g' finite same => by
  refine ⟨Cert.KerArray.decisions m, Cert.KerArray.keeps m, Cert.KerArray.run m g, ?_⟩
  refine (θ_run Cert.ReferenceIdeal.defs _ _).mono
    (fun r h c => ⟨(h c).1.trans (funext fun i => ?_), (h c).2.1.trans (funext fun i => ?_), (h c).2.2⟩) (Cert.Ref.run m' g')
  all_goals
    obtain ⟨h₀, h₁, h₂, h₃, h₄, _⟩ := same c
    rw [logits_agree m m' c h₀ h₁ h₂ h₃ h₄]
  · exact Cert.Agree.decision _ _ _ _ _ i
  · obtain ⟨f₀, f₁, f₂, f₃, f₄⟩ := finite c
    exact Cert.Agree.keep_probability _ _ _ _ _ (Cert.Finite.real_of_below _ _ f₀) (Cert.Finite.real_of_below _ _ f₁)
      (Cert.Finite.real_of_below _ _ f₂) (Cert.Finite.real_of_below _ _ f₃) (Cert.Finite.real_of_below _ _ f₄) i

/-- Every claim of the certificate. -/
theorem claim : Cert.Claim :=
  ⟨Cert.Kernel.Gen.facts, Cert.KernelIdeal.Gen.facts, Cert.ReferenceIdeal.Gen.facts, Cert.Finite.preFacts, Cert.Finite.onFacts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement Cert.KernelIdeal.κ "neg_log2e" .f32 0xBFB8AA3B#32 ((-((Real.log 2)⁻¹) : ℝ) : EReal) rfl,
    decisions_agree,
    results_agree⟩

end Cert.Proof

end
